-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x7168 : Shape := ⟨3, ![128, 1, 7168]⟩
abbrev S7168x4608 : Shape := ⟨2, ![7168, 4608]⟩
abbrev S56x36864 : Shape := ⟨2, ![56, 36864]⟩
abbrev S56x4608 : Shape := ⟨2, ![56, 4608]⟩
abbrev S8 : Shape := ⟨1, ![8]⟩
abbrev S128x7x1024 : Shape := ⟨3, ![128, 7, 1024]⟩
abbrev S7x128x1024 : Shape := ⟨3, ![7, 128, 1024]⟩
abbrev S56x4608x8 : Shape := ⟨3, ![56, 4608, 8]⟩
abbrev S_ : Shape := ⟨0, ![]⟩
abbrev S8x1 : Shape := ⟨2, ![8, 1]⟩
abbrev S8x56x4608 : Shape := ⟨3, ![8, 56, 4608]⟩
abbrev S8x128x4608 : Shape := ⟨3, ![8, 128, 4608]⟩
abbrev S7168x256 : Shape := ⟨2, ![7168, 256]⟩
abbrev S8x56x256 : Shape := ⟨3, ![8, 56, 256]⟩
abbrev S56x256 : Shape := ⟨2, ![56, 256]⟩
abbrev S8x128x256 : Shape := ⟨3, ![8, 128, 256]⟩
abbrev S1024x256 : Shape := ⟨2, ![1024, 256]⟩
abbrev S8x256 : Shape := ⟨2, ![8, 256]⟩
abbrev S1x8x256 : Shape := ⟨3, ![1, 8, 256]⟩
abbrev S8x1x256 : Shape := ⟨3, ![8, 1, 256]⟩
abbrev S1x128x256 : Shape := ⟨3, ![1, 128, 256]⟩
abbrev S128x256 : Shape := ⟨2, ![128, 256]⟩
abbrev S1x128x1024 : Shape := ⟨3, ![1, 128, 1024]⟩
abbrev S128x1024 : Shape := ⟨2, ![128, 1024]⟩
abbrev S1x128x4608 : Shape := ⟨3, ![1, 128, 4608]⟩
abbrev S128x4608 : Shape := ⟨2, ![128, 4608]⟩
abbrev S128x4608x1 : Shape := ⟨3, ![128, 4608, 1]⟩
abbrev S128x4608x8 : Shape := ⟨3, ![128, 4608, 8]⟩
abbrev S128x1x36864 : Shape := ⟨3, ![128, 1, 36864]⟩

abbrev nBuf : Space → Nat
  | .hbm => 45
  | .vmem => 10
  | .smem => 0
  | _ => 0

abbrev bufTy : (tb : Table) → Fin (tcTables nBuf tb) → BufTy
  | .hbm, ⟨0, _⟩ => ⟨S128x1x7168, .bf16⟩
  | .hbm, ⟨1, _⟩ => ⟨S7168x4608, .i32⟩
  | .hbm, ⟨2, _⟩ => ⟨S56x36864, .bf16⟩
  | .hbm, ⟨3, _⟩ => ⟨S56x4608, .i32⟩
  | .hbm, ⟨4, _⟩ => ⟨S8, .i32⟩
  | .hbm, ⟨5, _⟩ => ⟨S128x7x1024, .bf16⟩
  | .hbm, ⟨6, _⟩ => ⟨S7x128x1024, .bf16⟩
  | .hbm, ⟨7, _⟩ => ⟨S56x4608x8, .bf16⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S56x4608x8, .bf16⟩
  | .hbm, ⟨17, _⟩ => ⟨S8x56x4608, .bf16⟩
  | .hbm, ⟨18, _⟩ => ⟨S8x128x4608, .bf16⟩
  | .hbm, ⟨19, _⟩ => ⟨S1x128x4608, .bf16⟩
  | .hbm, ⟨20, _⟩ => ⟨S128x4608, .bf16⟩
  | .hbm, ⟨21, _⟩ => ⟨S1x128x4608, .bf16⟩
  | .hbm, ⟨22, _⟩ => ⟨S128x4608, .bf16⟩
  | .hbm, ⟨23, _⟩ => ⟨S1x128x4608, .bf16⟩
  | .hbm, ⟨24, _⟩ => ⟨S128x4608, .bf16⟩
  | .hbm, ⟨25, _⟩ => ⟨S1x128x4608, .bf16⟩
  | .hbm, ⟨26, _⟩ => ⟨S128x4608, .bf16⟩
  | .hbm, ⟨27, _⟩ => ⟨S1x128x4608, .bf16⟩
  | .hbm, ⟨28, _⟩ => ⟨S128x4608, .bf16⟩
  | .hbm, ⟨29, _⟩ => ⟨S1x128x4608, .bf16⟩
  | .hbm, ⟨30, _⟩ => ⟨S128x4608, .bf16⟩
  | .hbm, ⟨31, _⟩ => ⟨S1x128x4608, .bf16⟩
  | .hbm, ⟨32, _⟩ => ⟨S128x4608, .bf16⟩
  | .hbm, ⟨33, _⟩ => ⟨S1x128x4608, .bf16⟩
  | .hbm, ⟨34, _⟩ => ⟨S128x4608, .bf16⟩
  | .hbm, ⟨35, _⟩ => ⟨S128x4608x1, .bf16⟩
  | .hbm, ⟨36, _⟩ => ⟨S128x4608x1, .bf16⟩
  | .hbm, ⟨37, _⟩ => ⟨S128x4608x1, .bf16⟩
  | .hbm, ⟨38, _⟩ => ⟨S128x4608x1, .bf16⟩
  | .hbm, ⟨39, _⟩ => ⟨S128x4608x1, .bf16⟩
  | .hbm, ⟨40, _⟩ => ⟨S128x4608x1, .bf16⟩
  | .hbm, ⟨41, _⟩ => ⟨S128x4608x1, .bf16⟩
  | .hbm, ⟨42, _⟩ => ⟨S128x4608x1, .bf16⟩
  | .hbm, ⟨43, _⟩ => ⟨S128x4608x8, .bf16⟩
  | .hbm, ⟨44, _⟩ => ⟨S128x1x36864, .bf16⟩
  | .local _ .vmem, ⟨0, _⟩ => ⟨S7x128x1024, .bf16⟩
  | .local _ .vmem, ⟨1, _⟩ => ⟨S7168x256, .i32⟩
  | .local _ .vmem, ⟨2, _⟩ => ⟨S7168x256, .i32⟩
  | .local _ .vmem, ⟨3, _⟩ => ⟨S8x56x256, .bf16⟩
  | .local _ .vmem, ⟨4, _⟩ => ⟨S8x56x256, .bf16⟩
  | .local _ .vmem, ⟨5, _⟩ => ⟨S56x256, .i32⟩
  | .local _ .vmem, ⟨6, _⟩ => ⟨S56x256, .i32⟩
  | .local _ .vmem, ⟨7, _⟩ => ⟨S8x128x256, .bf16⟩
  | .local _ .vmem, ⟨8, _⟩ => ⟨S8x128x256, .bf16⟩
  | .local _ .vmem, ⟨9, _⟩ => ⟨S8x128x256, .f32⟩
  | _, _ => ⟨S128x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c7_i32 : BitVec 32 := 7#32
  let v4 : BitVec 32 := Scalar.addi c0_i32 c7_i32
  let c1_i32 : BitVec 32 := 1#32
  ⟨c0_i32, v4, c1_i32⟩
def k0_off1 (k0_t1 : Fin k0_t1_loop.trips) : Fin 2 → Nat :=
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c1024_i32 : BitVec 32 := 1024#32
  let v10 : BitVec 32 := Scalar.muli v9 c1024_i32
  let v11 : Index := Scalar.indexCast v10
  let c0_11 : Index := 0#32
  ![v11.toNat, 0]
def k0_off2 (k0_t1 : Fin k0_t1_loop.trips) : Fin 2 → Nat :=
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32 : BitVec 32 := 8#32
  let v13 : BitVec 32 := Scalar.muli v9 c8_i32
  let v14 : Index := Scalar.indexCast v13
  let c0_12 : Index := 0#32
  ![v14.toNat, 0]
def k0_off3 (k0_t1 : Fin k0_t1_loop.trips) : Fin 3 → Nat :=
  let c0_17 : Index := 0#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_16 : BitVec 32 := 8#32
  let v28 : BitVec 32 := Scalar.muli v9 c8_i32_16
  let v29 : Index := Scalar.indexCast v28
  let c0_18 : Index := 0#32
  ![0, v29.toNat, 0]
def k0_off4 (k0_t1 : Fin k0_t1_loop.trips) : Fin 3 → Nat :=
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let v41 : Index := Scalar.indexCast v9
  let c0_22 : Index := 0#32
  let c0_23 : Index := 0#32
  ![v41.toNat, 0, 0]
def k0_off5 (k0_t1 : Fin k0_t1_loop.trips) : Fin 3 → Nat :=
  let c1 : Index := 1#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_31 : BitVec 32 := 8#32
  let v62 : BitVec 32 := Scalar.muli v9 c8_i32_31
  let v63 : Index := Scalar.indexCast v62
  let c0_32 : Index := 0#32
  ![1, v63.toNat, 0]
def k0_off6 (k0_t1 : Fin k0_t1_loop.trips) : Fin 3 → Nat :=
  let c2 : Index := 2#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_46 : BitVec 32 := 8#32
  let v96 : BitVec 32 := Scalar.muli v9 c8_i32_46
  let v97 : Index := Scalar.indexCast v96
  let c0_47 : Index := 0#32
  ![2, v97.toNat, 0]
def k0_off7 (k0_t1 : Fin k0_t1_loop.trips) : Fin 3 → Nat :=
  let c3 : Index := 3#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_60 : BitVec 32 := 8#32
  let v130 : BitVec 32 := Scalar.muli v9 c8_i32_60
  let v131 : Index := Scalar.indexCast v130
  let c0_61 : Index := 0#32
  ![3, v131.toNat, 0]
def k0_off8 (k0_t1 : Fin k0_t1_loop.trips) : Fin 3 → Nat :=
  let c4 : Index := 4#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_74 : BitVec 32 := 8#32
  let v164 : BitVec 32 := Scalar.muli v9 c8_i32_74
  let v165 : Index := Scalar.indexCast v164
  let c0_75 : Index := 0#32
  ![4, v165.toNat, 0]
def k0_off9 (k0_t1 : Fin k0_t1_loop.trips) : Fin 3 → Nat :=
  let c5 : Index := 5#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_88 : BitVec 32 := 8#32
  let v198 : BitVec 32 := Scalar.muli v9 c8_i32_88
  let v199 : Index := Scalar.indexCast v198
  let c0_89 : Index := 0#32
  ![5, v199.toNat, 0]
def k0_off10 (k0_t1 : Fin k0_t1_loop.trips) : Fin 3 → Nat :=
  let c6 : Index := 6#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_102 : BitVec 32 := 8#32
  let v232 : BitVec 32 := Scalar.muli v9 c8_i32_102
  let v233 : Index := Scalar.indexCast v232
  let c0_103 : Index := 0#32
  ![6, v233.toNat, 0]
def k0_off11 (k0_t1 : Fin k0_t1_loop.trips) : Fin 3 → Nat :=
  let c7 : Index := 7#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v8 : BitVec 32 := Scalar.muli arg7 c1_i32_9
  let v9 : BitVec 32 := Scalar.addi c0_i32_10 v8
  let c8_i32_116 : BitVec 32 := 8#32
  let v266 : BitVec 32 := Scalar.muli v9 c8_i32_116
  let v267 : Index := Scalar.indexCast v266
  let c0_117 : Index := 0#32
  ![7, v267.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S7x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x7168 : Shape := ⟨3, ![128, 1, 7168]⟩
abbrev S7168x4608 : Shape := ⟨2, ![7168, 4608]⟩
abbrev S56x36864 : Shape := ⟨2, ![56, 36864]⟩
abbrev S56x4608 : Shape := ⟨2, ![56, 4608]⟩
abbrev S128x7168 : Shape := ⟨2, ![128, 7168]⟩
abbrev S_ : Shape := ⟨0, ![]⟩
abbrev S56x4608x1 : Shape := ⟨3, ![56, 4608, 1]⟩
abbrev S56x4608x8 : Shape := ⟨3, ![56, 4608, 8]⟩
abbrev S56x128x4608 : Shape := ⟨3, ![56, 128, 4608]⟩
abbrev S56x1x4608 : Shape := ⟨3, ![56, 1, 4608]⟩
abbrev S128x4608 : Shape := ⟨2, ![128, 4608]⟩
abbrev S128x4608x1 : Shape := ⟨3, ![128, 4608, 1]⟩
abbrev S128x4608x8 : Shape := ⟨3, ![128, 4608, 8]⟩
abbrev S128x1x36864 : Shape := ⟨3, ![128, 1, 36864]⟩

abbrev nBuf : Space → Nat
  | .hbm => 221
  | .vmem => 0
  | .smem => 0
  | _ => 0

abbrev hbmTy0_0 (i : Nat) : BufTy := match i % 128 with
  | 0 => ⟨S128x1x7168, .bf16⟩
  | 1 => ⟨S7168x4608, .i32⟩
  | 2 => ⟨S56x36864, .bf16⟩
  | 3 => ⟨S56x4608, .i32⟩
  | 4 => ⟨S128x7168, .bf16⟩
  | 5 => ⟨S56x4608, .i32⟩
  | 6 => ⟨S_, .i32⟩
  | 7 => ⟨S56x4608, .i32⟩
  | 8 => ⟨S56x4608, .i32⟩
  | 9 => ⟨S_, .i32⟩
  | 10 => ⟨S56x4608, .i32⟩
  | 11 => ⟨S56x4608, .i32⟩
  | 12 => ⟨S_, .i32⟩
  | 13 => ⟨S56x4608, .i32⟩
  | 14 => ⟨S56x4608, .i32⟩
  | 15 => ⟨S_, .i32⟩
  | 16 => ⟨S56x4608, .i32⟩
  | 17 => ⟨S56x4608, .i32⟩
  | 18 => ⟨S_, .i32⟩
  | 19 => ⟨S56x4608, .i32⟩
  | 20 => ⟨S56x4608, .i32⟩
  | 21 => ⟨S_, .i32⟩
  | 22 => ⟨S56x4608, .i32⟩
  | 23 => ⟨S56x4608, .i32⟩
  | 24 => ⟨S_, .i32⟩
  | 25 => ⟨S56x4608, .i32⟩
  | 26 => ⟨S56x4608, .i32⟩
  | 27 => ⟨S_, .i32⟩
  | 28 => ⟨S56x4608, .i32⟩
  | 29 => ⟨S56x4608, .i32⟩
  | 30 => ⟨S_, .i32⟩
  | 31 => ⟨S56x4608, .i32⟩
  | 32 => ⟨S56x4608, .i32⟩
  | 33 => ⟨S_, .i32⟩
  | 34 => ⟨S56x4608, .i32⟩
  | 35 => ⟨S56x4608, .i32⟩
  | 36 => ⟨S_, .i32⟩
  | 37 => ⟨S56x4608, .i32⟩
  | 38 => ⟨S56x4608, .i32⟩
  | 39 => ⟨S_, .i32⟩
  | 40 => ⟨S56x4608, .i32⟩
  | 41 => ⟨S56x4608, .i32⟩
  | 42 => ⟨S_, .i32⟩
  | 43 => ⟨S56x4608, .i32⟩
  | 44 => ⟨S56x4608, .i32⟩
  | 45 => ⟨S_, .i32⟩
  | 46 => ⟨S56x4608, .i32⟩
  | 47 => ⟨S56x4608, .i32⟩
  | 48 => ⟨S_, .i32⟩
  | 49 => ⟨S56x4608, .i32⟩
  | 50 => ⟨S56x4608, .i32⟩
  | 51 => ⟨S_, .i32⟩
  | 52 => ⟨S56x4608, .i32⟩
  | 53 => ⟨S56x4608, .i32⟩
  | 54 => ⟨S56x4608x1, .i32⟩
  | 55 => ⟨S56x4608x1, .i32⟩
  | 56 => ⟨S56x4608x1, .i32⟩
  | 57 => ⟨S56x4608x1, .i32⟩
  | 58 => ⟨S56x4608x1, .i32⟩
  | 59 => ⟨S56x4608x1, .i32⟩
  | 60 => ⟨S56x4608x1, .i32⟩
  | 61 => ⟨S56x4608x1, .i32⟩
  | 62 => ⟨S56x4608x8, .i32⟩
  | 63 => ⟨S56x36864, .i32⟩
  | 64 => ⟨S56x36864, .bf16⟩
  | 65 => ⟨S7168x4608, .i32⟩
  | 66 => ⟨S_, .i32⟩
  | 67 => ⟨S7168x4608, .i32⟩
  | 68 => ⟨S7168x4608, .i32⟩
  | 69 => ⟨S_, .i32⟩
  | 70 => ⟨S7168x4608, .i32⟩
  | 71 => ⟨S7168x4608, .i32⟩
  | 72 => ⟨S7168x4608, .bf16⟩
  | 73 => ⟨S56x4608, .bf16⟩
  | 74 => ⟨S56x4608, .bf16⟩
  | 75 => ⟨S56x128x4608, .bf16⟩
  | 76 => ⟨S56x1x4608, .bf16⟩
  | 77 => ⟨S56x128x4608, .bf16⟩
  | 78 => ⟨S56x128x4608, .bf16⟩
  | 79 => ⟨S56x1x4608, .bf16⟩
  | 80 => ⟨S56x128x4608, .bf16⟩
  | 81 => ⟨S56x128x4608, .bf16⟩
  | 82 => ⟨S7168x4608, .bf16⟩
  | 83 => ⟨S128x4608, .f32⟩
  | 84 => ⟨S_, .i32⟩
  | 85 => ⟨S7168x4608, .i32⟩
  | 86 => ⟨S7168x4608, .i32⟩
  | 87 => ⟨S_, .i32⟩
  | 88 => ⟨S7168x4608, .i32⟩
  | 89 => ⟨S7168x4608, .i32⟩
  | 90 => ⟨S7168x4608, .bf16⟩
  | 91 => ⟨S56x4608, .bf16⟩
  | 92 => ⟨S56x4608, .bf16⟩
  | 93 => ⟨S56x128x4608, .bf16⟩
  | 94 => ⟨S56x1x4608, .bf16⟩
  | 95 => ⟨S56x128x4608, .bf16⟩
  | 96 => ⟨S56x128x4608, .bf16⟩
  | 97 => ⟨S56x1x4608, .bf16⟩
  | 98 => ⟨S56x128x4608, .bf16⟩
  | 99 => ⟨S56x128x4608, .bf16⟩
  | 100 => ⟨S7168x4608, .bf16⟩
  | 101 => ⟨S128x4608, .f32⟩
  | 102 => ⟨S_, .i32⟩
  | 103 => ⟨S7168x4608, .i32⟩
  | 104 => ⟨S7168x4608, .i32⟩
  | 105 => ⟨S_, .i32⟩
  | 106 => ⟨S7168x4608, .i32⟩
  | 107 => ⟨S7168x4608, .i32⟩
  | 108 => ⟨S7168x4608, .bf16⟩
  | 109 => ⟨S56x4608, .bf16⟩
  | 110 => ⟨S56x4608, .bf16⟩
  | 111 => ⟨S56x128x4608, .bf16⟩
  | 112 => ⟨S56x1x4608, .bf16⟩
  | 113 => ⟨S56x128x4608, .bf16⟩
  | 114 => ⟨S56x128x4608, .bf16⟩
  | 115 => ⟨S56x1x4608, .bf16⟩
  | 116 => ⟨S56x128x4608, .bf16⟩
  | 117 => ⟨S56x128x4608, .bf16⟩
  | 118 => ⟨S7168x4608, .bf16⟩
  | 119 => ⟨S128x4608, .f32⟩
  | 120 => ⟨S_, .i32⟩
  | 121 => ⟨S7168x4608, .i32⟩
  | 122 => ⟨S7168x4608, .i32⟩
  | 123 => ⟨S_, .i32⟩
  | 124 => ⟨S7168x4608, .i32⟩
  | 125 => ⟨S7168x4608, .i32⟩
  | 126 => ⟨S7168x4608, .bf16⟩
  | 127 => ⟨S56x4608, .bf16⟩
  | _ => ⟨S128x1x7168, .bf16⟩

abbrev hbmTy0_1 (i : Nat) : BufTy := match i % 128 with
  | 0 => ⟨S56x4608, .bf16⟩
  | 1 => ⟨S56x128x4608, .bf16⟩
  | 2 => ⟨S56x1x4608, .bf16⟩
  | 3 => ⟨S56x128x4608, .bf16⟩
  | 4 => ⟨S56x128x4608, .bf16⟩
  | 5 => ⟨S56x1x4608, .bf16⟩
  | 6 => ⟨S56x128x4608, .bf16⟩
  | 7 => ⟨S56x128x4608, .bf16⟩
  | 8 => ⟨S7168x4608, .bf16⟩
  | 9 => ⟨S128x4608, .f32⟩
  | 10 => ⟨S_, .i32⟩
  | 11 => ⟨S7168x4608, .i32⟩
  | 12 => ⟨S7168x4608, .i32⟩
  | 13 => ⟨S_, .i32⟩
  | 14 => ⟨S7168x4608, .i32⟩
  | 15 => ⟨S7168x4608, .i32⟩
  | 16 => ⟨S7168x4608, .bf16⟩
  | 17 => ⟨S56x4608, .bf16⟩
  | 18 => ⟨S56x4608, .bf16⟩
  | 19 => ⟨S56x128x4608, .bf16⟩
  | 20 => ⟨S56x1x4608, .bf16⟩
  | 21 => ⟨S56x128x4608, .bf16⟩
  | 22 => ⟨S56x128x4608, .bf16⟩
  | 23 => ⟨S56x1x4608, .bf16⟩
  | 24 => ⟨S56x128x4608, .bf16⟩
  | 25 => ⟨S56x128x4608, .bf16⟩
  | 26 => ⟨S7168x4608, .bf16⟩
  | 27 => ⟨S128x4608, .f32⟩
  | 28 => ⟨S_, .i32⟩
  | 29 => ⟨S7168x4608, .i32⟩
  | 30 => ⟨S7168x4608, .i32⟩
  | 31 => ⟨S_, .i32⟩
  | 32 => ⟨S7168x4608, .i32⟩
  | 33 => ⟨S7168x4608, .i32⟩
  | 34 => ⟨S7168x4608, .bf16⟩
  | 35 => ⟨S56x4608, .bf16⟩
  | 36 => ⟨S56x4608, .bf16⟩
  | 37 => ⟨S56x128x4608, .bf16⟩
  | 38 => ⟨S56x1x4608, .bf16⟩
  | 39 => ⟨S56x128x4608, .bf16⟩
  | 40 => ⟨S56x128x4608, .bf16⟩
  | 41 => ⟨S56x1x4608, .bf16⟩
  | 42 => ⟨S56x128x4608, .bf16⟩
  | 43 => ⟨S56x128x4608, .bf16⟩
  | 44 => ⟨S7168x4608, .bf16⟩
  | 45 => ⟨S128x4608, .f32⟩
  | 46 => ⟨S_, .i32⟩
  | 47 => ⟨S7168x4608, .i32⟩
  | 48 => ⟨S7168x4608, .i32⟩
  | 49 => ⟨S_, .i32⟩
  | 50 => ⟨S7168x4608, .i32⟩
  | 51 => ⟨S7168x4608, .i32⟩
  | 52 => ⟨S7168x4608, .bf16⟩
  | 53 => ⟨S56x4608, .bf16⟩
  | 54 => ⟨S56x4608, .bf16⟩
  | 55 => ⟨S56x128x4608, .bf16⟩
  | 56 => ⟨S56x1x4608, .bf16⟩
  | 57 => ⟨S56x128x4608, .bf16⟩
  | 58 => ⟨S56x128x4608, .bf16⟩
  | 59 => ⟨S56x1x4608, .bf16⟩
  | 60 => ⟨S56x128x4608, .bf16⟩
  | 61 => ⟨S56x128x4608, .bf16⟩
  | 62 => ⟨S7168x4608, .bf16⟩
  | 63 => ⟨S128x4608, .f32⟩
  | 64 => ⟨S_, .i32⟩
  | 65 => ⟨S7168x4608, .i32⟩
  | 66 => ⟨S7168x4608, .i32⟩
  | 67 => ⟨S_, .i32⟩
  | 68 => ⟨S7168x4608, .i32⟩
  | 69 => ⟨S7168x4608, .i32⟩
  | 70 => ⟨S7168x4608, .bf16⟩
  | 71 => ⟨S56x4608, .bf16⟩
  | 72 => ⟨S56x4608, .bf16⟩
  | 73 => ⟨S56x128x4608, .bf16⟩
  | 74 => ⟨S56x1x4608, .bf16⟩
  | 75 => ⟨S56x128x4608, .bf16⟩
  | 76 => ⟨S56x128x4608, .bf16⟩
  | 77 => ⟨S56x1x4608, .bf16⟩
  | 78 => ⟨S56x128x4608, .bf16⟩
  | 79 => ⟨S56x128x4608, .bf16⟩
  | 80 => ⟨S7168x4608, .bf16⟩
  | 81 => ⟨S128x4608, .f32⟩
  | 82 => ⟨S128x4608x1, .f32⟩
  | 83 => ⟨S128x4608x1, .f32⟩
  | 84 => ⟨S128x4608x1, .f32⟩
  | 85 => ⟨S128x4608x1, .f32⟩
  | 86 => ⟨S128x4608x1, .f32⟩
  | 87 => ⟨S128x4608x1, .f32⟩
  | 88 => ⟨S128x4608x1, .f32⟩
  | 89 => ⟨S128x4608x1, .f32⟩
  | 90 => ⟨S128x4608x8, .f32⟩
  | 91 => ⟨S128x1x36864, .f32⟩
  | 92 => ⟨S128x1x36864, .bf16⟩
  | _ => ⟨S128x1x7168, .bf16⟩

abbrev hbmTy (i : Nat) : BufTy := match i / 128 with
  | 0 => hbmTy0_0 i
  | 1 => hbmTy0_1 i
  | _ => ⟨S128x1x7168, .bf16⟩

abbrev bufTy : (tb : Table) → Fin (tcTables nBuf tb) → BufTy
  | .hbm, ⟨i, _⟩ => hbmTy i
  | _, _ => ⟨S128x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_v19 : Ref sig .tc := ⟨.hbm, 32, rfl⟩
abbrev main_c_8 : Ref sig .tc := ⟨.hbm, 33, rfl⟩
abbrev main_v20 : Ref sig .tc := ⟨.hbm, 34, rfl⟩
abbrev main_v21 : Ref sig .tc := ⟨.hbm, 35, rfl⟩
abbrev main_c_9 : Ref sig .tc := ⟨.hbm, 36, rfl⟩
abbrev main_v22 : Ref sig .tc := ⟨.hbm, 37, rfl⟩
abbrev main_v23 : Ref sig .tc := ⟨.hbm, 38, rfl⟩
abbrev main_c_10 : Ref sig .tc := ⟨.hbm, 39, rfl⟩
abbrev main_v24 : Ref sig .tc := ⟨.hbm, 40, rfl⟩
abbrev main_v25 : Ref sig .tc := ⟨.hbm, 41, rfl⟩
abbrev main_c_11 : Ref sig .tc := ⟨.hbm, 42, rfl⟩
abbrev main_v26 : Ref sig .tc := ⟨.hbm, 43, rfl⟩
abbrev main_v27 : Ref sig .tc := ⟨.hbm, 44, rfl⟩
abbrev main_c_12 : Ref sig .tc := ⟨.hbm, 45, rfl⟩
abbrev main_v28 : Ref sig .tc := ⟨.hbm, 46, rfl⟩
abbrev main_v29 : Ref sig .tc := ⟨.hbm, 47, rfl⟩
abbrev main_c_13 : Ref sig .tc := ⟨.hbm, 48, rfl⟩
abbrev main_v30 : Ref sig .tc := ⟨.hbm, 49, rfl⟩
abbrev main_v31 : Ref sig .tc := ⟨.hbm, 50, rfl⟩
abbrev main_c_14 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_15 : Ref sig .tc := ⟨.hbm, 66, rfl⟩
abbrev main_v46 : Ref sig .tc := ⟨.hbm, 67, rfl⟩
abbrev main_v47 : Ref sig .tc := ⟨.hbm, 68, rfl⟩
abbrev main_c_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_17 : Ref sig .tc := ⟨.hbm, 84, rfl⟩
abbrev main_v62 : Ref sig .tc := ⟨.hbm, 85, rfl⟩
abbrev main_v63 : Ref sig .tc := ⟨.hbm, 86, rfl⟩
abbrev main_c_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_19 : Ref sig .tc := ⟨.hbm, 102, rfl⟩
abbrev main_v78 : Ref sig .tc := ⟨.hbm, 103, rfl⟩
abbrev main_v79 : Ref sig .tc := ⟨.hbm, 104, rfl⟩
abbrev main_c_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_21 : Ref sig .tc := ⟨.hbm, 120, rfl⟩
abbrev main_v94 : Ref sig .tc := ⟨.hbm, 121, rfl⟩
abbrev main_v95 : Ref sig .tc := ⟨.hbm, 122, rfl⟩
abbrev main_c_22 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_23 : Ref sig .tc := ⟨.hbm, 138, rfl⟩
abbrev main_v110 : Ref sig .tc := ⟨.hbm, 139, rfl⟩
abbrev main_v111 : Ref sig .tc := ⟨.hbm, 140, rfl⟩
abbrev main_c_24 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_c_25 : Ref sig .tc := ⟨.hbm, 156, rfl⟩
abbrev main_v126 : Ref sig .tc := ⟨.hbm, 157, rfl⟩
abbrev main_v127 : Ref sig .tc := ⟨.hbm, 158, rfl⟩
abbrev main_c_26 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_c_27 : Ref sig .tc := ⟨.hbm, 174, rfl⟩
abbrev main_v142 : Ref sig .tc := ⟨.hbm, 175, rfl⟩
abbrev main_v143 : Ref sig .tc := ⟨.hbm, 176, rfl⟩
abbrev main_c_28 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_c_29 : Ref sig .tc := ⟨.hbm, 192, rfl⟩
abbrev main_v158 : Ref sig .tc := ⟨.hbm, 193, rfl⟩
abbrev main_v159 : Ref sig .tc := ⟨.hbm, 194, rfl⟩
abbrev main_c_30 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩

abbrev nD : Nat := 1
abbrev τ : Topo := Topo.v7x

variable {F : FTy → Type} [FloatOps F]
-- ==== Proof.Field.lean ====
/- One 4-bit field of the kernel's chunk step: what each of the eight stored values is at an index. -/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Idealize.ShloMosaic

/-- The 4-bit field that starts at bit `sh` of the word `w`, as an extended real. -/
def code (sh w : BitVec 32) : EReal := FloatOps.sitofp (F := Ideal) .f32 (IntOp.andi (IntOp.shrui .vector w sh) 15#32)

/-- One field's accumulator after a chunk, at row `r` and column `n`: what it held plus the chunk's part of the contraction of `x` with the
    weights `(field of w − field of z) · s`, where 128 consecutive rows of weights share one row of `z` and of `s`. -/
def fieldStep (sh : BitVec 32) (w : Vec Ideal S1024x256 .i32) (z : Vec Ideal S8x256 .i32) (s : Vec Ideal S1x8x256 .bf16)
    (a : Vec Ideal S1x128x256 .f32) (x : Vec Ideal S1x128x1024 .bf16) (r : Fin 128) (n : Fin 256) : EReal :=
  a (ix3 0 r n) + ∑ k : Fin 1024, x (ix3 0 r k)
    * ((code sh (w (ix2 k n)) - code sh (z (ix2 (⟨k.val / 128, by omega⟩ : Fin 8) n))) * s (ix3 0 (⟨k.val / 128, by omega⟩ : Fin 8) n))

variable (w : Vec Ideal S1024x256 .i32) (z : Vec Ideal S8x256 .i32) (s : Vec Ideal S1x8x256 .bf16) (a : Vec Ideal S1x128x256 .f32)
  (x : Vec Ideal S1x128x1024 .bf16) (u : Fin 1) (r : Fin 128) (n : Fin 256)

/-- Field 0, at bit 0. -/
theorem field0 : k0_pay5 (k0_pay4 (F := Ideal) w z s a x) (ix3 u r n) = fieldStep 0#32 w z s a x r n := by
  pointwise [k0_pay5, k0_pay4]; rfl

/-- Field 1, at bit 4. -/
theorem field1 : k0_pay6 (F := Ideal) w z s a x (ix3 u r n) = fieldStep 4#32 w z s a x r n := by
  pointwise [k0_pay6]; rfl

/-- Field 2, at bit 8. -/
theorem field2 : k0_pay8 (F := Ideal) z (k0_pay7 w) s a x (ix3 u r n) = fieldStep 8#32 w z s a x r n := by
  pointwise [k0_pay8, k0_pay7]; rfl

/-- Field 3, at bit 12. -/
theorem field3 : k0_pay11 (F := Ideal) (k0_pay9 w) (k0_pay10 z) 15#32 s a x (ix3 u r n) = fieldStep 12#32 w z s a x r n := by
  pointwise [k0_pay9, k0_pay10, k0_pay11]; rfl

/-- Field 4, at bit 16. -/
theorem field4 : k0_pay14 (F := Ideal) (k0_pay12 w) (k0_pay13 z) s a x (ix3 u r n) = fieldStep 16#32 w z s a x r n := by
  pointwise [k0_pay12, k0_pay13, k0_pay14]; rfl

/-- Field 5, at bit 20. -/
theorem field5 : k0_pay16 (F := Ideal) (k0_pay15 w z s) a x (ix3 u r n) = fieldStep 20#32 w z s a x r n := by
  pointwise [k0_pay15, k0_pay16]; rfl

/-- Field 6, at bit 24. -/
theorem field6 : k0_pay19 (F := Ideal) (k0_pay17 w z s) (k0_pay18 a) x (ix3 u r n) = fieldStep 24#32 w z s a x r n := by
  pointwise [k0_pay17, k0_pay18, k0_pay19]; rfl

/-- Field 7, at bit 28. -/
theorem field7 : k0_pay2 (F := Ideal) (k0_pay20 w z s a x) (ix3 u r n) = fieldStep 28#32 w z s a x r n := by
  pointwise [k0_pay20, k0_pay2]; rfl

end Cert.KernelIdeal.Hand

end
-- ==== Proof.Chunk.lean ====
/- The loop over the contraction's chunks: what the accumulator holds after each trip, at an index. -/
module

public import proofs.«01_k».proof.Proof.Gen.KernelIdeal.Loops
public import proofs.«01_k».proof.Proof.Field
public import Idealize.ShloMosaic.Lib.WritesUnit

@[expose] public section

set_option maxRecDepth 16384

noncomputable section

namespace Cert.KernelIdeal.Hand

open Cert.KernelIdeal Cert.KernelIdeal.Gen Idealize.ShloMosaic Idealize.ShloMosaic.TcCoe Idealize.SL.Sem

/-- The bit at which the 4-bit field `i` starts. -/
def bitOf (i : Fin 8) : BitVec 32 := BitVec.ofNat 32 (4 * i.val)

/-- Chunk `k`'s part of field `i`'s result at row `r` and column `n` of a block of columns: rows `1024 k … 1024 k + 1023` of the contraction,
    whose groups are `8 k … 8 k + 7`. -/
def chunkTerm (X : Vec Ideal S7x128x1024 .bf16) (W : Vec Ideal S7168x256 .i32) (S : Vec Ideal S8x56x256 .bf16) (Z : Vec Ideal S56x256 .i32)
    (k : Fin 7) (i : Fin 8) (r : Fin 128) (n : Fin 256) : EReal :=
  ∑ q : Fin 1024, X (ix3 k r q)
    * ((code (bitOf i) (W (ix2 (⟨1024 * k.val + q.val, by omega⟩ : Fin 7168) n)) - code (bitOf i) (Z (ix2 (⟨8 * k.val + q.val / 128, by omega⟩ : Fin 56) n)))
      * S (ix3 i (⟨8 * k.val + q.val / 128, by omega⟩ : Fin 56) n))

/-- A load at unit strides, read at an index: the view's reading at that index moved by the offsets. -/
theorem readAt_at {sig : RefSig} {κ : Kind} {sp : Space} {s : Shape} {e : EltTy} {Val : EltTy → Type} (v : View sig κ sp s e) (f : v.ty.Contents Val)
    {off off' size : Fin s.rank → ℕ} (inb : ∀ a, off a + size a ≤ s.size a) (h : off = off') (y : (Rect.unit off size inb).shape.Idx) (y' : s.Idx)
    (hy : ∀ a, (y' a).val = off' a + (y a).val) :
    v.readAt Val (Rect.unit off size inb).toLoadRect f y = v.read Val f y' := by
  subst h
  exact congrArg (v.read Val f) (funext fun a => Fin.ext (by
    show off a + 1 * (y a).val = (y' a).val
    rw [hy a, Nat.one_mul]))

/-- A field's step over what the trip loads is the accumulator's old element plus the chunk's part. -/
theorem fieldStep_eq {X : Vec Ideal S7x128x1024 .bf16} {W : Vec Ideal S7168x256 .i32} {S : Vec Ideal S8x56x256 .bf16} {Z : Vec Ideal S56x256 .i32}
    {A : Vec Ideal S8x128x256 .f32} {sh : BitVec 32} {w : Vec Ideal S1024x256 .i32} {z : Vec Ideal S8x256 .i32} {s : Vec Ideal S1x8x256 .bf16}
    {a : Vec Ideal S1x128x256 .f32} {x : Vec Ideal S1x128x1024 .bf16} (k : Fin 7) (i : Fin 8) (r : Fin 128) (n : Fin 256) (hsh : sh = bitOf i)
    (ha : a (ix3 0 r n) = A (ix3 i r n)) (hx : ∀ q, x (ix3 0 r q) = X (ix3 k r q))
    (hw : ∀ q : Fin 1024, w (ix2 q n) = W (ix2 (⟨1024 * k.val + q.val, by omega⟩ : Fin 7168) n))
    (hz : ∀ g : Fin 8, z (ix2 g n) = Z (ix2 (⟨8 * k.val + g.val, by omega⟩ : Fin 56) n))
    (hs : ∀ g : Fin 8, s (ix3 0 g n) = S (ix3 i (⟨8 * k.val + g.val, by omega⟩ : Fin 56) n)) :
    fieldStep sh w z s a x r n = A (ix3 i r n) + chunkTerm X W S Z k i r n := by
  unfold fieldStep chunkTerm
  simp only [ha, hx, hw, hz, hs, hsh]

section Trip

variable (c : Dev nD) (p : grid0.Coords) (arg1 : Memref sig .tc .vmem S7x128x1024 .bf16) (harg1 : arg1.IsWhole)
  (arg2 : Memref sig .tc .vmem S7168x256 .i32) (harg2 : arg2.IsWhole) (arg3 : Memref sig .tc .vmem S8x56x256 .bf16) (harg3 : arg3.IsWhole)
  (arg4 : Memref sig .tc .vmem S56x256 .i32) (harg4 : arg4.IsWhole) (arg5 : Memref sig .tc .vmem S8x128x256 .bf16) (harg5 : arg5.IsWhole)
  (arg6 : Memref sig .tc .vmem S8x128x256 .f32) (harg6 : arg6.IsWhole) (X1 : BufTy.Contents (Elt Ideal) arg1.view.ty)
  (X2 : BufTy.Contents (Elt Ideal) arg2.view.ty) (X3 : BufTy.Contents (Elt Ideal) arg3.view.ty) (X4 : BufTy.Contents (Elt Ideal) arg4.view.ty)

/-- One trip adds the chunk's part to each of the eight accumulators. -/
theorem trip_read (k : Fin k0_t1_loop.trips) (f : BufTy.Contents (Elt Ideal) arg6.view.ty) (k' : Fin 7) (hk : k.val = k'.val) (i : Fin 8) (r : Fin 128) (n : Fin 256) :
    arg6.view.read (Elt Ideal) (arg6.view.writes (Elt Ideal) f
        (tripL_k0_t1 (F := Ideal) Variants.none c none p arg1 harg1 arg2 harg2 arg3 harg3 arg4 harg4 arg5 harg5 arg6 harg6 X1 X2 X3 X4 k f)) (ix3 i r n)
      = arg6.view.read (Elt Ideal) f (ix3 i r n)
        + chunkTerm (arg1.view.read (Elt Ideal) X1) (arg2.view.read (Elt Ideal) X2) (arg3.view.read (Elt Ideal) X3) (arg4.view.read (Elt Ideal) X4) k' i r n := by
  unfold tripL_k0_t1 trip_k0_t1
  dsimp only
  sl_unfold_words
  have hx : ∀ q : Fin 1024, arg1.view.readAt (Elt Ideal) (Rect.unit (s := S7x128x1024) (k0_off4 k) S1x128x1024.size (k0_off4_inb k)).toLoadRect X1 (ix3 0 r q) = arg1.view.read (Elt Ideal) X1 (ix3 k' r q) :=
    fun q => readAt_at _ _ _ (k0_off4_eq k) _ _ (by intro a; fin_cases a <;> simp [hk])
  have hw : ∀ q : Fin 1024, arg2.view.readAt (Elt Ideal) (Rect.unit (s := S7168x256) (k0_off1 k) S1024x256.size (k0_off1_inb k)).toLoadRect X2 (ix2 q n)
      = arg2.view.read (Elt Ideal) X2 (ix2 (⟨1024 * k'.val + q.val, by omega⟩ : Fin 7168) n) :=
    fun q => readAt_at _ _ _ (k0_off1_eq k) _ _ (by intro a; fin_cases a <;> simp [hk])
  have hz : ∀ g : Fin 8, arg4.view.readAt (Elt Ideal) (Rect.unit (s := S56x256) (k0_off2 k) S8x256.size (k0_off2_inb k)).toLoadRect X4 (ix2 g n)
      = arg4.view.read (Elt Ideal) X4 (ix2 (⟨8 * k'.val + g.val, by omega⟩ : Fin 56) n) :=
    fun g => readAt_at _ _ _ (k0_off2_eq k) _ _ (by intro a; fin_cases a <;> simp [hk])
  fin_vals i with hi
  · obtain rfl : i = 0 := Fin.ext hi
    iterate 7 rw [View.read_writes_cons_unit_of_not_mem _ _ _ _ _ _ rfl 0 (by left; simp)]
    rw [View.read_writes_cons_unit_of_mem _ _ _ _ _ _ (ix3 0 r n) rfl (by intro a; fin_cases a <;> simp), field0]
    exact fieldStep_eq k' _ r n (by decide) (readAt_at _ _ _ rfl _ _ (by intro a; fin_cases a <;> simp)) hx hw hz
      fun g => readAt_at _ _ _ (k0_off3_eq k) _ _ (by intro a; fin_cases a <;> simp [hk])
  · obtain rfl : i = 1 := Fin.ext hi
    iterate 6 rw [View.read_writes_cons_unit_of_not_mem _ _ _ _ _ _ rfl 0 (by left; simp)]
    rw [View.read_writes_cons_unit_of_mem _ _ _ _ _ _ (ix3 0 r n) rfl (by intro a; fin_cases a <;> simp), field1]
    exact fieldStep_eq k' _ r n (by decide) (readAt_at _ _ _ rfl _ _ (by intro a; fin_cases a <;> simp)) hx hw hz
      fun g => readAt_at _ _ _ (k0_off5_eq k) _ _ (by intro a; fin_cases a <;> simp [hk])
  · obtain rfl : i = 2 := Fin.ext hi
    iterate 5 rw [View.read_writes_cons_unit_of_not_mem _ _ _ _ _ _ rfl 0 (by left; simp)]
    rw [View.read_writes_cons_unit_of_mem _ _ _ _ _ _ (ix3 0 r n) rfl (by intro a; fin_cases a <;> simp), field2]
    exact fieldStep_eq k' _ r n (by decide) (readAt_at _ _ _ rfl _ _ (by intro a; fin_cases a <;> simp)) hx hw hz
      fun g => readAt_at _ _ _ (k0_off6_eq k) _ _ (by intro a; fin_cases a <;> simp [hk])
  · obtain rfl : i = 3 := Fin.ext hi
    iterate 4 rw [View.read_writes_cons_unit_of_not_mem _ _ _ _ _ _ rfl 0 (by left; simp)]
    rw [View.read_writes_cons_unit_of_mem _ _ _ _ _ _ (ix3 0 r n) rfl (by intro a; fin_cases a <;> simp), field3]
    exact fieldStep_eq k' _ r n (by decide) (readAt_at _ _ _ rfl _ _ (by intro a; fin_cases a <;> simp)) hx hw hz
      fun g => readAt_at _ _ _ (k0_off7_eq k) _ _ (by intro a; fin_cases a <;> simp [hk])
  · obtain rfl : i = 4 := Fin.ext hi
    iterate 3 rw [View.read_writes_cons_unit_of_not_mem _ _ _ _ _ _ rfl 0 (by left; simp)]
    rw [View.read_writes_cons_unit_of_mem _ _ _ _ _ _ (ix3 0 r n) rfl (by intro a; fin_cases a <;> simp), field4]
    exact fieldStep_eq k' _ r n (by decide) (readAt_at _ _ _ rfl _ _ (by intro a; fin_cases a <;> simp)) hx hw hz
      fun g => readAt_at _ _ _ (k0_off8_eq k) _ _ (by intro a; fin_cases a <;> simp [hk])
  · obtain rfl : i = 5 := Fin.ext hi
    iterate 2 rw [View.read_writes_cons_unit_of_not_mem _ _ _ _ _ _ rfl 0 (by left; simp)]
    rw [View.read_writes_cons_unit_of_mem _ _ _ _ _ _ (ix3 0 r n) rfl (by intro a; fin_cases a <;> simp), field5]
    exact fieldStep_eq k' _ r n (by decide) (readAt_at _ _ _ rfl _ _ (by intro a; fin_cases a <;> simp)) hx hw hz
      fun g => readAt_at _ _ _ (k0_off9_eq k) _ _ (by intro a; fin_cases a <;> simp [hk])
  · obtain rfl : i = 6 := Fin.ext hi
    iterate 1 rw [View.read_writes_cons_unit_of_not_mem _ _ _ _ _ _ rfl 0 (by left; simp)]
    rw [View.read_writes_cons_unit_of_mem _ _ _ _ _ _ (ix3 0 r n) rfl (by intro a; fin_cases a <;> simp), field6]
    exact fieldStep_eq k' _ r n (by decide) (readAt_at _ _ _ rfl _ _ (by intro a; fin_cases a <;> simp)) hx hw hz
      fun g => readAt_at _ _ _ (k0_off10_eq k) _ _ (by intro a; fin_cases a <;> simp [hk])
  · obtain rfl : i = 7 := Fin.ext hi
    rw [View.read_writes_cons_unit_of_mem _ _ _ _ _ _ (ix3 0 r n) rfl (by intro a; fin_cases a <;> simp), field7]
    exact fieldStep_eq k' _ r n (by decide) (readAt_at _ _ _ rfl _ _ (by intro a; fin_cases a <;> simp)) hx hw hz
      fun g => readAt_at _ _ _ (k0_off11_eq k) _ _ (by intro a; fin_cases a <;> simp [hk])

/-- The loop makes seven trips. -/
theorem trips_eq : k0_t1_loop.trips = 7 := by decide +kernel

/-- After the first `t` trips each accumulator holds what it held at the loop's entry plus the parts of the first `t` chunks. -/
theorem trips_read (G : BufTy.Contents (Elt Ideal) arg6.view.ty) (i : Fin 8) (r : Fin 128) (n : Fin 256) : ∀ (t : ℕ) (ht : t ≤ 7),
    arg6.view.read (Elt Ideal) (arg6.view.writes (Elt Ideal) G
        (pb_k0_t1 (F := Ideal) Variants.none c none p arg1 harg1 arg2 harg2 arg3 harg3 arg4 harg4 arg5 harg5 arg6 harg6 X1 X2 X3 X4 G t)) (ix3 i r n)
      = (arg6.view.read (Elt Ideal) G (ix3 i r n) : EReal)
        + ∑ k : Fin t, chunkTerm (arg1.view.read (Elt Ideal) X1) (arg2.view.read (Elt Ideal) X2) (arg3.view.read (Elt Ideal) X3) (arg4.view.read (Elt Ideal) X4)
            (Fin.castLE ht k) i r n
  | 0, _ => by
    rw [pb_k0_t1.eq_1, View.writes_nil, Finset.univ_eq_empty, Finset.sum_empty]
    exact (add_zero (M := EReal) _).symm
  | t + 1, ht => by
    have hk : t < k0_t1_loop.trips := by rw [trips_eq]; omega
    rw [pb_k0_t1_succ Variants.none c none p arg1 harg1 arg2 harg2 arg3 harg3 arg4 harg4 arg5 harg5 arg6 harg6 X1 X2 X3 X4 G ⟨t, hk⟩, View.writes_append,
      trip_read c p arg1 harg1 arg2 harg2 arg3 harg3 arg4 harg4 arg5 harg5 arg6 harg6 X1 X2 X3 X4 ⟨t, hk⟩ _ ⟨t, by omega⟩ rfl i r n,
      trips_read G i r n t (by omega), Fin.sum_univ_castSucc]
    exact add_assoc (G := EReal) _ _ _

end Trip

end Cert.KernelIdeal.Hand

end
-- ==== Proof.Host.lean ====
/- What the host operations before the kernel hand it, at an index: the rows of `x` by chunk, and the scales by field. -/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem

/-- The column, among the eight that share a packed word, whose code is the 4-bit field `i` of the word. -/
def colOf (i : Fin 8) : Fin 8 := ![0, 2, 4, 6, 1, 3, 5, 7] i

/-- The 4-bit field of a packed word that holds the code of column `j` of the word's eight. -/
def fieldOf (j : Fin 8) : Fin 8 := ![0, 4, 1, 5, 2, 6, 3, 7] j

/-- The field that holds a column, and the column that a field holds, undo each other. -/
theorem colOf_fieldOf (j : Fin 8) : colOf (fieldOf j) = j := by
  revert j; decide

/-- The column that a field holds, and the field that holds a column, undo each other. -/
theorem fieldOf_colOf (i : Fin 8) : fieldOf (colOf i) = i := by
  revert i; decide

/-- The gather of whole slabs along the last axis, at an index: the operand at the slab that the table names. -/
theorem gather_at (x : S56x4608x8.Idx → EReal) (idx : IVec S8x1 32) (g : Fin 56) (n : Fin 4608) (i : Fin 8) (e : Fin 8)
    (h : (idx (ix2 i 0)).toInt.toNat = e.val) :
    Host.gather gather_S56x4608x8_S8x1_S56x4608x8_01_2_n_n_2_1_5646081 x idx (ix3 g n i) = x (ix3 g n e) := by
  unfold Host.gather
  congr 1
  funext a
  refine Fin.ext ?_
  show GatherDims.start _ (ix3 g n i) idx a + GatherDims.batchCoord _ (ix3 g n i) a + GatherDims.offCoord _ (ix3 g n i) a = _
  rw [GatherDims.batchCoord_eq_zero _ _ _ List.not_mem_nil]
  fin_cases a
  ·
    unfold GatherDims.start
    rw [dif_neg (by decide)]
    unfold GatherDims.offCoord
    rw [dif_pos (by decide)]
    exact Nat.zero_add _
  ·
    unfold GatherDims.start
    rw [dif_neg (by decide)]
    unfold GatherDims.offCoord
    rw [dif_pos (by decide)]
    exact Nat.zero_add _
  ·
    rw [GatherDims.offCoord_eq_zero _ _ _ (by decide)]
    unfold GatherDims.start
    rw [dif_pos (by decide)]
    have hsi : GatherDims.siIdx gather_S56x4608x8_S8x1_S56x4608x8_01_2_n_n_2_1_5646081 (ix3 g n i)
        ⟨List.idxOf (2 : Fin 3) [2], by decide⟩ = ix2 i 0 := by
      funext b; refine Fin.ext ?_
      match b with
      | ⟨0, _⟩ => rfl
      | ⟨1, _⟩ => rfl
    have h2 : min ((idx (ix2 i 0)).toInt.toNat) 7 = e.val := by rw [h]; omega
    refine Eq.trans ?_ h2
    rw [← hsi]
    rfl

variable (m : (b : Loc nD τ sig) → b.2.ty.Contents (Elt Ideal))

/-- The kernel's first operand: chunk `k` of row `r` of `x`. -/
theorem x_at (c : Dev nD) (k : Fin 7) (r : Fin 128) (q : Fin 1024) :
    V m c main_v1 (ix3 k r q) = m ((c : Thread nD τ).loc main_arg0) (ix3 r 0 (⟨1024 * k.val + q.val, by omega⟩ : Fin 7168)) := by
  show StableHlo.after (List.flatten [hostOps0]) (fun b => m (c, b)) _ _ = _
  simp only [List.flatten_cons, List.flatten_nil, List.append_nil]
  entry_read
  pointwise []
  simp only [Nat.mul_comm k.val 1024]

/-- The kernel's third operand: the scales of the columns held by field `i`. -/
theorem s_at (c : Dev nD) (i : Fin 8) (g : Fin 56) (n : Fin 4608) :
    V m c main_v10 (ix3 i g n) = m ((c : Thread nD τ).loc main_arg2) (ix2 g (⟨8 * n.val + (colOf i).val, by omega⟩ : Fin 36864)) := by
  show StableHlo.after (List.flatten [hostOps0]) (fun b => m (c, b)) _ _ = _
  simp only [List.flatten_cons, List.flatten_nil, List.append_nil]
  entry_read
  pointwise []
  rw [gather_at _ _ g n i (colOf i) ?_]
  · pointwise []
    simp only [Nat.mul_comm n.val 8]
  · pointwise []
    revert i
    decide +kernel

end Cert.KernelIdeal.Hand
-- ==== Proof.Value.lean ====
/- The kernel's output array after the run, at an index. -/
module

public import proofs.«01_k».proof.Proof.Gen.KernelIdeal.Frame
public import proofs.«01_k».proof.Proof.Chunk
public import proofs.«01_k».proof.Proof.Host
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

/-- What one grid point stores: at field `i`, row `r` and column `n` of the block, the sum of the seven chunks' parts. -/
theorem out_read (c : Dev nD) (p : grid0.Coords) (arg1 : Memref sig .tc .vmem S7x128x1024 .bf16) (harg1 : arg1.IsWhole)
  (arg2 : Memref sig .tc .vmem S7168x256 .i32) (harg2 : arg2.IsWhole) (arg3 : Memref sig .tc .vmem S8x56x256 .bf16) (harg3 : arg3.IsWhole)
  (arg4 : Memref sig .tc .vmem S56x256 .i32) (harg4 : arg4.IsWhole) (arg5 : Memref sig .tc .vmem S8x128x256 .bf16) (harg5 : arg5.IsWhole)
  (arg6 : Memref sig .tc .vmem S8x128x256 .f32) (harg6 : arg6.IsWhole) (X : Vec Ideal S7x128x1024 .bf16) (W : Vec Ideal S7168x256 .i32) (S : Vec Ideal S8x56x256 .bf16) (Z : Vec Ideal S56x256 .i32)
   (i : Fin 8) (r : Fin 128) (n : Fin 256) :
    out0_A_4 (F := Ideal) c p arg1 harg1 arg2 harg2 arg3 harg3 arg4 harg4 arg5 harg5 arg6 harg6 X W S Z (ix3 i r n)
      = ∑ k : Fin 7, chunkTerm X W S Z k i r n := by
  frame_out
  rw [show Scf.trips (0#32) (Scalar.addi 0#32 7#32) 1#32 = 7 by decide +kernel]
  pointwise [k0_pay3]
  unfold View.readCov
  refine (readAt_at arg6.view _ _ rfl (ix3 i r n) (ix3 i r n) (by intro a; fin_cases a <;> simp)).trans ?_
  rw [View.writes_append, trips_read c p arg1 harg1 arg2 harg2 arg3 harg3 arg4 harg4 arg5 harg5 arg6 harg6 _ _ _ _ _ i r n 7 (le_refl 7),
    View.read_writes_cons_unit_of_mem _ _ _ _ _ _ (ix3 i r n) rfl (by intro a; fin_cases a <;> simp),
    harg1.read_unread, harg2.read_unread, harg3.read_unread, harg4.read_unread]
  have h0 : (k0_pay1 (F := Ideal) (ix3 i r n) : EReal) = 0 := by pointwise [k0_pay1]
  rw [h0]
  exact zero_add (M := EReal) _

/-- The result for field `i` of packed column `n` at row `r`, of the arguments: the contraction over the seven chunks of 1024 rows. -/
def fieldSum (x : S128x1x7168.Idx → EReal) (w : S7168x4608.Idx → BitVec 32) (s : S56x36864.Idx → EReal) (z : S56x4608.Idx → BitVec 32)
    (i : Fin 8) (r : Fin 128) (n : Fin 4608) : EReal :=
  ∑ k : Fin 7, ∑ q : Fin 1024, x (ix3 r 0 (⟨1024 * k.val + q.val, by omega⟩ : Fin 7168))
    * ((code (bitOf i) (w (ix2 (⟨1024 * k.val + q.val, by omega⟩ : Fin 7168) n)) - code (bitOf i) (z (ix2 (⟨8 * k.val + q.val / 128, by omega⟩ : Fin 56) n)))
      * s (ix2 (⟨8 * k.val + q.val / 128, by omega⟩ : Fin 56) (⟨8 * n.val + (colOf i).val, by omega⟩ : Fin 36864)))

variable (m : (b : Loc nD τ sig) → b.2.ty.Contents (Elt Ideal))

/-- Which block of each array a grid point stages: all of `x`, and column block `t` of the others. -/
theorem idx : ∀ t : Fin cfg0.N, win0_0.index t = ![0, 0, 0] ∧ win0_1.index t = ![0, t.val] ∧ win0_2.index t = ![0, 0, t.val]
    ∧ win0_3.index t = ![0, t.val] ∧ win0_4.index t = ![0, 0, t.val] :=
  (by decide +kernel : ∀ t : Fin grid0.N, _)

/-- The block of `x` that a grid point reads, at an index: all of it, by chunk. -/
theorem xblk_at (c : Dev nD) (t : Fin cfg0.N) (k : Fin 7) (r : Fin 128) (q : Fin 1024) :
    iblk m c 0 t (ix3 k r q) = m ((c : Thread nD τ).loc main_arg0) (ix3 r 0 (⟨1024 * k.val + q.val, by omega⟩ : Fin 7168)) := by
  rw [← x_at m c k r q]
  blk_point [iblk, V, idx t]

/-- The block of packed words that a grid point reads, at an index. -/
theorem wblk_at (c : Dev nD) (t : Fin cfg0.N) (k : Fin 7168) (n : Fin 256) (n' : Fin 4608) (hn : n'.val = 256 * t.val + n.val) :
    iblk m c 1 t (ix2 k n) = m ((c : Thread nD τ).loc main_arg1) (ix2 k n') := by
  rw [← V_main_arg1 m c]
  blk_point [iblk, V, idx t]

/-- The block of scales that a grid point reads, at an index. -/
theorem sblk_at (c : Dev nD) (t : Fin cfg0.N) (i : Fin 8) (g : Fin 56) (n : Fin 256) (n' : Fin 4608) (hn : n'.val = 256 * t.val + n.val) :
    iblk m c 2 t (ix3 i g n) = m ((c : Thread nD τ).loc main_arg2) (ix2 g (⟨8 * n'.val + (colOf i).val, by omega⟩ : Fin 36864)) := by
  rw [← s_at m c i g n']
  blk_point [iblk, V, idx t]

/-- The block of packed zero points that a grid point reads, at an index. -/
theorem zblk_at (c : Dev nD) (t : Fin cfg0.N) (g : Fin 56) (n : Fin 256) (n' : Fin 4608) (hn : n'.val = 256 * t.val + n.val) :
    iblk m c 3 t (ix2 g n) = m ((c : Thread nD τ).loc main_arg3) (ix2 g n') := by
  rw [← V_main_arg3 m c]
  blk_point [iblk, V, idx t]

/-- The output array after the run, at every index. -/
theorem final (c : Dev nD) : (dats m 0 c).arrAt 4 (cfgs 0).N = fun y => fieldSum (m ((c : Thread nD τ).loc main_arg0)) (m ((c : Thread nD τ).loc main_arg1))
    (m ((c : Thread nD τ).loc main_arg2)) (m ((c : Thread nD τ).loc main_arg3)) (y 0) (y 1) (y 2) := by
  refine (dats m 0 c).arrAt_eq_of_covers 4 _ (by decide +kernel) fun t hf y => ?_
  blk_simp
  rw [after0_4]
  unfold outsAt0
  idx_vars y
  have ht : t.val < 18 := t.isLt
  have hn : 256 * t.val + y2.val < 4608 := by omega
  have e0 : ((View.whole main_v11).slice (win0_4.rect t)).emb (ix3 y0 y1 y2) = ix3 y0 y1 (⟨256 * t.val + y2.val, hn⟩ : Fin 4608) := by
    blk_ext [idx t]
  rw [out_read, e0]
  unfold fieldSum chunkTerm
  refine Finset.sum_congr (M := EReal) rfl fun k _ => Finset.sum_congr (M := EReal) rfl fun q _ => ?_
  rw [xblk_at m c t, wblk_at m c t _ y2 ⟨256 * t.val + y2.val, hn⟩ rfl, zblk_at m c t _ y2 ⟨256 * t.val + y2.val, hn⟩ rfl,
    sblk_at m c t y0 _ y2 ⟨256 * t.val + y2.val, hn⟩ rfl]
  rfl

end Cert.KernelIdeal.Hand
-- ==== Proof.Tail.lean ====
/- The host operations after the kernel: the eight fields' results interleaved along the columns. -/
module

public import proofs.«01_k».proof.Proof.Value
public import Idealize.ShloMosaic.Lib.StableHlo.RunRead

@[expose] public section

set_option maxRecDepth 16384

noncomputable section

namespace Cert.KernelIdeal.Hand

open Cert.KernelIdeal Cert.KernelIdeal.Gen Idealize.ShloMosaic Idealize.ShloMosaic.TcCoe Idealize.SL.Sem

/-- Eight matrices stacked along a new last axis and flattened: column `o` is column `o / 8` of the matrix `o % 8`. -/
theorem interleave_at (u : Fin 8 → S128x4608x1.Idx → EReal) (r : Fin 128) (o : Fin 36864) (n : Fin 4608) (j : Fin 8) (hn : o.val / 8 = n.val)
    (hj : o.val % 8 = j.val) :
    shapeCast S128x1x36864 (concatenate S128x4608x8 2
      [⟨S128x4608x1, u 0⟩, ⟨S128x4608x1, u 1⟩, ⟨S128x4608x1, u 2⟩, ⟨S128x4608x1, u 3⟩, ⟨S128x4608x1, u 4⟩, ⟨S128x4608x1, u 5⟩,
        ⟨S128x4608x1, u 6⟩, ⟨S128x4608x1, u 7⟩]
      concatenates_S128x4608x1_S128x4608x1_S128x4608x1_S128x4608x1_S128x4608x1_S128x4608x1_S128x4608x1_S128x4608x1_S128x4608x8_d2)
      shapeCasts_S128x4608x8_S128x1x36864 (ix3 r 0 o)
      = u j (ix3 r n 0) := by
  pointwise []
  simp only [hj, hn]
  fin_vals j with hk
  all_goals simp only [hk, Nat.reduceSub, Nat.reduceLT, ↓reduceDIte]
  all_goals exact congrFun (congrArg u (Fin.ext hk.symm)) _

/-- Eight pieces that the host operations up to a place have made, one for each column of the eight that share a word. -/
def pieces (σ : Valuation τ sig (Elt Ideal)) : Fin 8 → S128x4608x1.Idx → EReal :=
  ![σ (Proc.devRef .tc main_v28), σ (Proc.devRef .tc main_v29), σ (Proc.devRef .tc main_v30), σ (Proc.devRef .tc main_v31),
    σ (Proc.devRef .tc main_v32), σ (Proc.devRef .tc main_v33), σ (Proc.devRef .tc main_v34), σ (Proc.devRef .tc main_v35)]

set_option maxHeartbeats 1000000 in
/-- Of any contents `σ` of the buffers, what the operations before the last two leave as piece `j` of the result: the output array's matrix for
    the field that holds column `j`. -/
theorem pieces_at (σ : Valuation τ sig (Elt Ideal)) (r : Fin 128) (n : Fin 4608) (j : Fin 8) :
    pieces (StableHlo.after (hostOps1.take 24) σ) j (ix3 r n 0) = σ (Proc.devRef .tc main_v11) (ix3 (fieldOf j) r n) := by
  unfold pieces hostOps1
  simp only [List.take_succ_cons, List.take_zero]
  fin_cases j
  all_goals
    dsimp only [Fin.reduceFinMk, Fin.zero_eta, Matrix.cons_val]
    after_reads_simp
    pointwise [fieldOf]
    try rfl

/-- Of any contents of the kernel's output array, the module's result at column `o` is the array's entry for the field that holds column
    `o % 8` of the word `o / 8`. -/
theorem tail_at (σ : Valuation τ sig (Elt Ideal)) (r : Fin 128) (o : Fin 36864) (n : Fin 4608) (j : Fin 8) (hn : o.val / 8 = n.val)
    (hj : o.val % 8 = j.val) :
    StableHlo.after hostOps1 σ (Proc.devRef .tc main_v37) (ix3 r 0 o) = σ (Proc.devRef .tc main_v11) (ix3 (fieldOf j) r n) := by
  rw [← pieces_at σ r n j]
  rw [show (hostOps1 : List (HloOp τ sig (Elt Ideal))) = hostOps1.take 24 ++ hostOps1.drop 24 from (List.take_append_drop _ _).symm]
  rw [StableHlo.after_append]
  rw [List.take_left' (by rfl)]
  generalize StableHlo.after (hostOps1.take 24) σ = σ'
  unfold hostOps1
  simp only [List.drop_succ_cons, List.drop_zero]
  simp only [StableHlo.after_cons, StableHlo.after_nil]
  rw [StableHlo.reshape_result, StableHlo.nary_result]
  exact interleave_at (pieces σ') r o n j hn hj

variable (m : (b : Loc nD τ sig) → b.2.ty.Contents (Elt Ideal))

/-- The module's result after the run: at column `o` the contraction for the field that holds column `o % 8` of the word `o / 8`. -/
theorem result (c : Dev nD) (r : Fin 128) (o : Fin 36864) (n : Fin 4608) (j : Fin 8) (hn : o.val / 8 = n.val) (hj : o.val % 8 = j.val) :
    Pipeline.afterTail₀ cfgs (dats m) 0 (V0 m) [hostOps1] c main_v37 (ix3 r 0 o)
      = fieldSum (m ((c : Thread nD τ).loc main_arg0)) (m ((c : Thread nD τ).loc main_arg1)) (m ((c : Thread nD τ).loc main_arg2))
          (m ((c : Thread nD τ).loc main_arg3)) (fieldOf j) r n := by
  unfold Pipeline.afterTail₀
  simp only [List.flatten_cons, List.flatten_nil, List.append_nil]
  refine (tail_at _ r o n j hn hj).trans ?_
  refine (congrFun (Pipeline.withArrays_arr spec0 (by decide) c _ _ 4) _).trans ?_
  exact congrFun (final m c) (ix3 (fieldOf j) r n)

/-- Every run of the module ends with its result as `result` reads it, and with its arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v37) = Pipeline.afterTail₀ cfgs (dats m) 0 (V0 m) [hostOps1] c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v37 (Pipeline.mem_restRefs_of main_v37 (by decide) (by decide)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩) (run_main m ρ)

end Cert.KernelIdeal.Hand
-- ==== Proof.Reference.lean ====
/- The reference's result at an index: for each column a contraction over all 7168 rows. -/
module

public import proofs.«01_k».proof.Proof.Gen.ReferenceIdeal.Read
public import proofs.«01_k».proof.Proof.Chunk
public import proofs.«01_k».proof.Proof.Host
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem
open Cert.KernelIdeal.Hand (bitOf colOf fieldOf)

/-- The 4-bit field that starts at bit `sh` of the word `w`, as the reference reads it: the masked word taken unsigned. -/
def field (w sh : BitVec 32) : BitVec 32 := IntOp.andi (IntOp.shrui .host w sh) 15#32

/-- That field as an extended real. -/
def ucode (sh w : BitVec 32) : EReal := FloatOps.uitofp (F := Ideal) .bf16 (field w sh)

/-- Eight matrices of words stacked along a new last axis and flattened: column `o` is column `o / 8` of the matrix `o % 8`. -/
theorem stackZ_at (u : Fin 8 → S56x4608x1.Idx → BitVec 32) (g : Fin 56) (n : Fin 4608) (j : Fin 8) :
    concatenate S56x4608x8 2
      [⟨S56x4608x1, u 0⟩, ⟨S56x4608x1, u 1⟩, ⟨S56x4608x1, u 2⟩, ⟨S56x4608x1, u 3⟩, ⟨S56x4608x1, u 4⟩, ⟨S56x4608x1, u 5⟩,
        ⟨S56x4608x1, u 6⟩, ⟨S56x4608x1, u 7⟩]
      concatenates_S56x4608x1_S56x4608x1_S56x4608x1_S56x4608x1_S56x4608x1_S56x4608x1_S56x4608x1_S56x4608x1_S56x4608x8_d2 (ix3 g n j)
      = u j (ix3 g n 0) := by
  pointwise []
  fin_vals j with hk
  all_goals simp only [hk, Nat.reduceSub, Nat.reduceLT, ↓reduceDIte]
  all_goals exact congrFun (congrArg u (Fin.ext hk.symm)) _

/-- Eight matrices of results stacked along a new last axis: entry `(r, n, j)` is entry `(r, n)` of the matrix `j`. -/
theorem stackY_at (u : Fin 8 → S128x4608x1.Idx → EReal) (r : Fin 128) (n : Fin 4608) (j : Fin 8) :
    concatenate S128x4608x8 2
      [⟨S128x4608x1, u 0⟩, ⟨S128x4608x1, u 1⟩, ⟨S128x4608x1, u 2⟩, ⟨S128x4608x1, u 3⟩, ⟨S128x4608x1, u 4⟩, ⟨S128x4608x1, u 5⟩,
        ⟨S128x4608x1, u 6⟩, ⟨S128x4608x1, u 7⟩]
      concatenates_S128x4608x1_S128x4608x1_S128x4608x1_S128x4608x1_S128x4608x1_S128x4608x1_S128x4608x1_S128x4608x1_S128x4608x8_d2 (ix3 r n j)
      = u j (ix3 r n 0) := by
  pointwise []
  fin_vals j with hk
  all_goals simp only [hk, Nat.reduceSub, Nat.reduceLT, ↓reduceDIte]
  all_goals exact congrFun (congrArg u (Fin.ext hk.symm)) _

variable (x0 : S128x1x7168.Idx → EReal) (x1 : S7168x4608.Idx → BitVec 32) (x2 : S56x36864.Idx → EReal) (x3 : S56x4608.Idx → BitVec 32)

/-- The stack of unpacked zero points: at column `j` of word `n`, the field of the word that holds that column. -/
theorem zstack_at (g : Fin 56) (n : Fin 4608) (j : Fin 8) :
    val_main_v42 (F := Ideal) x3 (ix3 g n j) = field (x3 (ix2 g n)) (bitOf (fieldOf j)) := by
  refine (stackZ_at ![val_main_v34 (F := Ideal) x3, val_main_v35 (F := Ideal) x3, val_main_v36 (F := Ideal) x3, val_main_v37 (F := Ideal) x3,
    val_main_v38 (F := Ideal) x3, val_main_v39 (F := Ideal) x3, val_main_v40 (F := Ideal) x3, val_main_v41 (F := Ideal) x3] g n j).trans ?_
  fin_cases j
  all_goals
    dsimp only [Fin.reduceFinMk, Fin.zero_eta, Matrix.cons_val]
    pointwise [val_main_v1, val_main_v2, val_main_v3, val_main_v4, val_main_v5, val_main_v6, val_main_v7, val_main_v8, val_main_v9, val_main_v10,
      val_main_v11, val_main_v12, val_main_v13, val_main_v14, val_main_v15, val_main_v16, val_main_v17, val_main_v18, val_main_v19,
      val_main_v20, val_main_v21, val_main_v22, val_main_v23, val_main_v24, val_main_v25, val_main_v26, val_main_v27, val_main_v28,
      val_main_v29, val_main_v30, val_main_v31, val_main_v32, val_main_v33, val_main_v34, val_main_v35, val_main_v36, val_main_v37,
      val_main_v38, val_main_v39, val_main_v40, val_main_v41, val_main_c, val_main_c_0, val_main_c_1, val_main_c_2, val_main_c_3,
      val_main_c_4, val_main_c_5, val_main_c_6, val_main_c_7, val_main_c_8, val_main_c_9, val_main_c_10, val_main_c_11, val_main_c_12,
      val_main_c_13, val_main_c_14]
    try rfl

/-- The unpacked zero points, at column `8 n + j`. -/
theorem zfull_at (g : Fin 56) (o : Fin 36864) (n : Fin 4608) (j : Fin 8) (hn : o.val / 8 = n.val) (hj : o.val % 8 = j.val) :
    val_main_v44 (F := Ideal) x3 (ix2 g o) = ucode (bitOf (fieldOf j)) (x3 (ix2 g n)) := by
  pointwise [val_main_v44, val_main_v43]
  simp only [hn, hj]
  exact congrArg (FloatOps.uitofp (F := Ideal) .bf16) (zstack_at x3 g n j)

/-- The contraction for field `i` of packed column `n` at row `r`. -/
def refSum (i : Fin 8) (r : Fin 128) (n : Fin 4608) : EReal :=
  ∑ k : Fin 7168, x0 (ix3 r 0 k)
    * ((ucode (bitOf i) (x1 (ix2 k n)) - ucode (bitOf i) (x3 (ix2 (⟨k.val / 128, by omega⟩ : Fin 56) n)))
      * x2 (ix2 (⟨k.val / 128, by omega⟩ : Fin 56) (⟨8 * n.val + (colOf i).val, by omega⟩ : Fin 36864)))

/-- One term of field `i`'s contraction, from the unpacked zero points and the scales at the column `8 n + colOf i`. -/
theorem term_at (i : Fin 8) (b : BitVec 32) (hb : b = bitOf i) (r : Fin 128) (n : Fin 4608) (k : Fin 7168) (o : Fin 36864)
    (ho : o.val = 8 * n.val + (colOf i).val) :
    x0 (ix3 r 0 k) * ((FloatOps.uitofp (F := Ideal) .bf16 (IntOp.andi (IntOp.shrui .host (x1 (ix2 k n)) b) 15#32)
        - (val_main_v44 (F := Ideal) x3 (ix2 (⟨k.val / 128, by omega⟩ : Fin 56) o) : EReal)) * x2 (ix2 (⟨k.val / 128, by omega⟩ : Fin 56) o))
      = x0 (ix3 r 0 k)
        * ((ucode (bitOf i) (x1 (ix2 k n)) - ucode (bitOf i) (x3 (ix2 (⟨k.val / 128, by omega⟩ : Fin 56) n)))
          * x2 (ix2 (⟨k.val / 128, by omega⟩ : Fin 56) (⟨8 * n.val + (colOf i).val, by omega⟩ : Fin 36864))) := by
  have e : (⟨8 * n.val + (colOf i).val, by omega⟩ : Fin 36864) = o := Fin.ext ho.symm
  rw [hb, zfull_at x3 _ o n (colOf i) (by omega) (by omega), Cert.KernelIdeal.Hand.fieldOf_colOf, e]
  rfl

/-- Field 0's contraction. -/
theorem dot0 (r : Fin 128) (n : Fin 4608) : val_main_v61 (F := Ideal) x0 x1 x2 x3 (ix2 r n) = refSum x0 x1 x2 x3 0 r n := by
  pointwise [val_main_v0, val_main_v45, val_main_c_15, val_main_c_16, val_main_v61, val_main_v60, val_main_v59, val_main_v58, val_main_v57,
    val_main_v56, val_main_v55, val_main_v54, val_main_v53, val_main_v52, val_main_v51, val_main_v50, val_main_v49, val_main_v48,
    val_main_v47, val_main_v46]
  exact Finset.sum_congr rfl fun k _ => term_at x0 x1 x2 x3 0 _ rfl r n k _ (by show _ = 8 * n.val + 0; simp only []; omega)

/-- Field 1's contraction. -/
theorem dot1 (r : Fin 128) (n : Fin 4608) : val_main_v77 (F := Ideal) x0 x1 x2 x3 (ix2 r n) = refSum x0 x1 x2 x3 1 r n := by
  pointwise [val_main_v0, val_main_v45, val_main_c_17, val_main_c_18, val_main_v77, val_main_v76, val_main_v75, val_main_v74, val_main_v73,
    val_main_v72, val_main_v71, val_main_v70, val_main_v69, val_main_v68, val_main_v67, val_main_v66, val_main_v65, val_main_v64,
    val_main_v63, val_main_v62]
  exact Finset.sum_congr rfl fun k _ => term_at x0 x1 x2 x3 1 _ rfl r n k _ (by show _ = 8 * n.val + 2; simp only []; omega)

/-- Field 2's contraction. -/
theorem dot2 (r : Fin 128) (n : Fin 4608) : val_main_v93 (F := Ideal) x0 x1 x2 x3 (ix2 r n) = refSum x0 x1 x2 x3 2 r n := by
  pointwise [val_main_v0, val_main_v45, val_main_c_19, val_main_c_20, val_main_v93, val_main_v92, val_main_v91, val_main_v90, val_main_v89,
    val_main_v88, val_main_v87, val_main_v86, val_main_v85, val_main_v84, val_main_v83, val_main_v82, val_main_v81, val_main_v80,
    val_main_v79, val_main_v78]
  exact Finset.sum_congr rfl fun k _ => term_at x0 x1 x2 x3 2 _ rfl r n k _ (by show _ = 8 * n.val + 4; simp only []; omega)

/-- Field 3's contraction. -/
theorem dot3 (r : Fin 128) (n : Fin 4608) : val_main_v109 (F := Ideal) x0 x1 x2 x3 (ix2 r n) = refSum x0 x1 x2 x3 3 r n := by
  pointwise [val_main_v0, val_main_v45, val_main_c_21, val_main_c_22, val_main_v109, val_main_v108, val_main_v107, val_main_v106,
    val_main_v105, val_main_v104, val_main_v103, val_main_v102, val_main_v101, val_main_v100, val_main_v99, val_main_v98,
    val_main_v97, val_main_v96, val_main_v95, val_main_v94]
  exact Finset.sum_congr rfl fun k _ => term_at x0 x1 x2 x3 3 _ rfl r n k _ (by show _ = 8 * n.val + 6; simp only []; omega)

/-- Field 4's contraction. -/
theorem dot4 (r : Fin 128) (n : Fin 4608) : val_main_v125 (F := Ideal) x0 x1 x2 x3 (ix2 r n) = refSum x0 x1 x2 x3 4 r n := by
  pointwise [val_main_v0, val_main_v45, val_main_c_23, val_main_c_24, val_main_v125, val_main_v124, val_main_v123, val_main_v122,
    val_main_v121, val_main_v120, val_main_v119, val_main_v118, val_main_v117, val_main_v116, val_main_v115, val_main_v114,
    val_main_v113, val_main_v112, val_main_v111, val_main_v110]
  exact Finset.sum_congr rfl fun k _ => term_at x0 x1 x2 x3 4 _ rfl r n k _ (by show _ = 8 * n.val + 1; simp only []; omega)

/-- Field 5's contraction. -/
theorem dot5 (r : Fin 128) (n : Fin 4608) : val_main_v141 (F := Ideal) x0 x1 x2 x3 (ix2 r n) = refSum x0 x1 x2 x3 5 r n := by
  pointwise [val_main_v0, val_main_v45, val_main_c_25, val_main_c_26, val_main_v141, val_main_v140, val_main_v139, val_main_v138,
    val_main_v137, val_main_v136, val_main_v135, val_main_v134, val_main_v133, val_main_v132, val_main_v131, val_main_v130,
    val_main_v129, val_main_v128, val_main_v127, val_main_v126]
  exact Finset.sum_congr rfl fun k _ => term_at x0 x1 x2 x3 5 _ rfl r n k _ (by show _ = 8 * n.val + 3; simp only []; omega)

/-- Field 6's contraction. -/
theorem dot6 (r : Fin 128) (n : Fin 4608) : val_main_v157 (F := Ideal) x0 x1 x2 x3 (ix2 r n) = refSum x0 x1 x2 x3 6 r n := by
  pointwise [val_main_v0, val_main_v45, val_main_c_27, val_main_c_28, val_main_v157, val_main_v156, val_main_v155, val_main_v154,
    val_main_v153, val_main_v152, val_main_v151, val_main_v150, val_main_v149, val_main_v148, val_main_v147, val_main_v146,
    val_main_v145, val_main_v144, val_main_v143, val_main_v142]
  exact Finset.sum_congr rfl fun k _ => term_at x0 x1 x2 x3 6 _ rfl r n k _ (by show _ = 8 * n.val + 5; simp only []; omega)

/-- Field 7's contraction. -/
theorem dot7 (r : Fin 128) (n : Fin 4608) : val_main_v173 (F := Ideal) x0 x1 x2 x3 (ix2 r n) = refSum x0 x1 x2 x3 7 r n := by
  pointwise [val_main_v0, val_main_v45, val_main_c_29, val_main_c_30, val_main_v173, val_main_v172, val_main_v171, val_main_v170,
    val_main_v169, val_main_v168, val_main_v167, val_main_v166, val_main_v165, val_main_v164, val_main_v163, val_main_v162,
    val_main_v161, val_main_v160, val_main_v159, val_main_v158]
  exact Finset.sum_congr rfl fun k _ => term_at x0 x1 x2 x3 7 _ rfl r n k _ (by show _ = 8 * n.val + 7; simp only []; omega)

/-- The stack of the eight contractions: at column `j` of word `n`, the contraction for the field that holds that column. -/
theorem ystack_at (r : Fin 128) (n : Fin 4608) (j : Fin 8) :
    val_main_v182 (F := Ideal) x0 x1 x2 x3 (ix3 r n j) = refSum x0 x1 x2 x3 (fieldOf j) r n := by
  refine (stackY_at ![val_main_v174 (F := Ideal) x0 x1 x2 x3, val_main_v175 (F := Ideal) x0 x1 x2 x3, val_main_v176 (F := Ideal) x0 x1 x2 x3,
    val_main_v177 (F := Ideal) x0 x1 x2 x3, val_main_v178 (F := Ideal) x0 x1 x2 x3, val_main_v179 (F := Ideal) x0 x1 x2 x3,
    val_main_v180 (F := Ideal) x0 x1 x2 x3, val_main_v181 (F := Ideal) x0 x1 x2 x3] r n j).trans ?_
  fin_cases j
  all_goals
    dsimp only [Fin.reduceFinMk, Fin.zero_eta, Matrix.cons_val]
    pointwise [val_main_v174, val_main_v175, val_main_v176, val_main_v177, val_main_v178, val_main_v179, val_main_v180, val_main_v181]
  · exact dot0 x0 x1 x2 x3 r n
  · exact dot4 x0 x1 x2 x3 r n
  · exact dot1 x0 x1 x2 x3 r n
  · exact dot5 x0 x1 x2 x3 r n
  · exact dot2 x0 x1 x2 x3 r n
  · exact dot6 x0 x1 x2 x3 r n
  · exact dot3 x0 x1 x2 x3 r n
  · exact dot7 x0 x1 x2 x3 r n

/-- The reference's result at row `r` and column `o`: the contraction for the field that holds column `o % 8` of the word `o / 8`. -/
theorem result_at (r : Fin 128) (o : Fin 36864) (n : Fin 4608) (j : Fin 8) (hn : o.val / 8 = n.val) (hj : o.val % 8 = j.val) :
    val_main_v184 (F := Ideal) x0 x1 x2 x3 (ix3 r 0 o) = refSum x0 x1 x2 x3 (fieldOf j) r n := by
  pointwise [val_main_v184, val_main_v183]
  simp only [hn, hj]
  exact ystack_at x0 x1 x2 x3 r n j

end Cert.ReferenceIdeal.Hand
-- ==== Proof.Sum.lean ====
/- The kernel's sum by chunks is the reference's sum over all rows. -/
module

public import proofs.«01_k».proof.Proof.Value
public import proofs.«01_k».proof.Proof.Reference

@[expose] public section

set_option maxRecDepth 16384

noncomputable section

namespace Cert.Hand

open Idealize.ShloMosaic Cert.KernelIdeal.Hand Cert.ReferenceIdeal.Hand

/-- A word masked to four bits reads the same as a signed and as an unsigned number. -/
theorem toInt_mask (v : BitVec 32) : (v &&& 15#32).toInt = ((v &&& 15#32).toNat : ℤ) := by
  have h : (v &&& 15#32).toNat ≤ 15 := by
    rw [BitVec.toNat_and]
    exact Nat.and_le_right
  exact BitVec.toInt_eq_toNat_of_lt (by omega)

/-- A 4-bit field of a word is the same extended real on both sides: the kernel reads it signed, the reference unsigned. -/
theorem ucode_eq_code (i : Fin 8) (w : BitVec 32) : ucode (bitOf i) w = code (bitOf i) w := by
  have hb : (bitOf i).toNat < 32 := by revert i; decide
  unfold ucode code field IntOp.shrui
  rw [if_pos hb, if_pos hb]
  show (((w >>> bitOf i &&& 15#32).toNat : ℝ) : EReal) = (((w >>> bitOf i &&& 15#32).toInt : ℝ) : EReal)
  rw [toInt_mask]
  norm_cast

/-- The sum over all rows, by chunks of 1024. -/
theorem sum_chunks (f : Fin 7168 → EReal) : ∑ k : Fin 7168, f k = ∑ k : Fin 7, ∑ q : Fin 1024, f ⟨1024 * k.val + q.val, by omega⟩ := by
  refine Eq.symm (Fin.sum_mul_add_congr (S := 7) (n := 1024) (L := 7168) ?_)
  intro k q h
  exact congrArg f (Fin.ext (by show 1024 * k.val + q.val = k.val * 1024 + q.val; omega))

/-- The reference's contraction for a field is the kernel's. -/
theorem refSum_eq_fieldSum (x : Cert.KernelIdeal.S128x1x7168.Idx → EReal) (w : Cert.KernelIdeal.S7168x4608.Idx → BitVec 32)
    (s : Cert.KernelIdeal.S56x36864.Idx → EReal) (z : Cert.KernelIdeal.S56x4608.Idx → BitVec 32) (i : Fin 8) (r : Fin 128) (n : Fin 4608) :
    refSum x w s z i r n = fieldSum x w s z i r n := by
  unfold refSum fieldSum
  rw [sum_chunks]
  refine Finset.sum_congr rfl fun k _ => Finset.sum_congr rfl fun q _ => ?_
  have e : (⟨(1024 * k.val + q.val) / 128, by omega⟩ : Fin 56) = ⟨8 * k.val + q.val / 128, by omega⟩ :=
    Fin.ext (by show (1024 * k.val + q.val) / 128 = 8 * k.val + q.val / 128; omega)
  simp only [ucode_eq_code, e]

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Tail
public import proofs.«01_k».proof.Proof.Sum
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Of the kernel's arguments, the result its idealization leaves is the reference's. -/
theorem result_eq (m : (b : Loc Cert.KernelIdeal.nD Cert.KernelIdeal.τ Cert.KernelIdeal.sig) → b.2.ty.Contents (Elt Ideal)) (c : Dev Cert.KernelIdeal.nD) :
    Pipeline.afterTail₀ Cert.KernelIdeal.cfgs (Cert.KernelIdeal.Gen.dats m) 0 (Cert.KernelIdeal.Gen.V0 m) [Cert.KernelIdeal.Gen.hostOps1] c
        Cert.KernelIdeal.main_v37
      = Cert.ReferenceIdeal.Read.val_main_v184 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext y
  obtain ⟨r, u, o, rfl⟩ : ∃ (r : Fin 128) (u : Fin 1) (o : Fin 36864), y = ix3 r u o := ⟨y 0, y 1, y 2, eq_ix3 y⟩
  obtain rfl : u = 0 := Subsingleton.elim _ _
  refine (Cert.KernelIdeal.Hand.result m c r o ⟨o.val / 8, by omega⟩ ⟨o.val % 8, by omega⟩ rfl rfl).trans ?_
  refine Eq.trans ?_ (Cert.ReferenceIdeal.Hand.result_at _ _ _ _ r o ⟨o.val / 8, by omega⟩ ⟨o.val % 8, by omega⟩ rfl rfl).symm
  exact (Cert.Hand.refSum_eq_fieldSum _ _ _ _ _ r _).symm

/-- The kernel, its idealization and the reference run to the end and leave their arguments and every semaphore as they were; the
    idealization is the kernel's own program; over the extended reals the kernel and the reference compute the same result. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · intro m ρ _
    exact (θ_run Cert.ReferenceIdeal.defs _ _).mono (fun r h => ⟨fun c => (h c).2, sem_eq_zero_of_no_sems rfl r.2⟩)
      (Cert.ReferenceIdeal.Value.run m ρ)
  · intro m g m' g' _ hagree
    refine ⟨_, Cert.KernelIdeal.Hand.run m g, ?_⟩
    refine (θ_run Cert.ReferenceIdeal.defs _ _).mono (fun r h c => ⟨(h c).1.trans ?_, (h c).2⟩) (Cert.ReferenceIdeal.Value.run m' g')
    obtain ⟨h0, h1, h2, h3⟩ := hagree c
    rw [result_eq m c, ← h0, ← h1, ← h2, ← h3]
    exact Cert.ReferenceIdeal.Read.val_main_v184_eq (StableHlo.launchContents m' c)⟩

end Cert.Proof

end
